-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diffusion_positive [hPre_diffusion_positive : Cert.Pre_diffusion_positive.Facts] (m : (ℓ : Loc Cert.KernelIdeal.nD Cert.KernelIdeal.τ Cert.KernelIdeal.sig) → Buf (Elt Ideal) ℓ) : Prop :=
  ∀ c : Dev Cert.KernelIdeal.nD,
    (Cert.Pre_diffusion_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diffusion_positive [hPre_diffusion_positive : Cert.Pre_diffusion_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diffusion_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_diffusion_positive [hKernelIdeal : Cert.KernelIdeal.Facts] [hPre_diffusion_positive : Cert.Pre_diffusion_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diffusion_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_diffusion_positive [hReferenceIdeal : Cert.ReferenceIdeal.Facts] [hPre_diffusion_positive : Cert.Pre_diffusion_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diffusion_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_diffusion_positive [hKernelIdeal : Cert.KernelIdeal.Facts] [hReferenceIdeal : Cert.ReferenceIdeal.Facts] [hPre_diffusion_positive : Cert.Pre_diffusion_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diffusion_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_diffusion_positive : Cert.Pre_diffusion_positive.Facts),
    quiescent_Kernel (hKernel := hKernel)
    ∧ quiescent_KernelIdeal (hKernelIdeal := hKernelIdeal)
    ∧ quiescent_KernelIdeal_pre_diffusion_positive (hKernelIdeal := hKernelIdeal) (hPre_diffusion_positive := hPre_diffusion_positive)
    ∧ quiescent_ReferenceIdeal (hReferenceIdeal := hReferenceIdeal)
    ∧ quiescent_ReferenceIdeal_pre_diffusion_positive (hReferenceIdeal := hReferenceIdeal) (hPre_diffusion_positive := hPre_diffusion_positive)
    ∧ preserves_Kernel_KernelIdeal
    ∧ algebraic_KernelIdeal_ReferenceIdeal_pre_diffusion_positive (hKernelIdeal := hKernelIdeal) (hReferenceIdeal := hReferenceIdeal) (hPre_diffusion_positive := hPre_diffusion_positive)
-- ==== Pre_diffusion_positive.lean ====
abbrev S16384x2 : Shape := ⟨2, ![16384, 2]⟩
abbrev S_ : Shape := ⟨0, ![]⟩
abbrev S4096 : Shape := ⟨1, ![4096]⟩

class Facts : Prop where

variable [Facts]

def fn {F : FTy → Type} [FloatOps F] (main_arg0 : FVec F S16384x2 .f32) (main_arg1 : FVec F S_ .f32) (main_arg2 : FVec F S4096 .f32) (main_arg3 : FVec F S4096 .f32) (main_arg4 : IVec S4096 32) : IVec S_ 1 :=
  let main_cst : FVec F S_ .f32 := constant S_ .f32 0x00000000#32
  let main_v0 : IVec S_ 1 := cmpf .ogt main_arg1 main_cst
  main_v0
-- ==== Kernel.lean ====
abbrev S16384x2 : Shape := ⟨2, ![16384, 2]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S1x1 : Shape := ⟨2, ![1, 1]⟩
abbrev S4096x512 : Shape := ⟨2, ![4096, 512]⟩
abbrev S1x512 : Shape := ⟨2, ![1, 512]⟩
abbrev S16384x1 : Shape := ⟨2, ![16384, 1]⟩
abbrev S16384x512 : Shape := ⟨2, ![16384, 512]⟩
abbrev S8x4096 : Shape := ⟨2, ![8, 4096]⟩
abbrev S8x512 : Shape := ⟨2, ![8, 512]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 16
  | .vmem => 24
  | .smem => 0
  | _ => 0

abbrev bufTy : (tb : Table) → Fin (tcTables nBuf tb) → BufTy
  | .hbm, ⟨0, _⟩ => ⟨S16384x2, .f32⟩
  | .hbm, ⟨1, _⟩ => ⟨S_, .f32⟩
  | .hbm, ⟨2, _⟩ => ⟨S4096, .f32⟩
  | .hbm, ⟨3, _⟩ => ⟨S4096, .f32⟩
  | .hbm, ⟨4, _⟩ => ⟨S4096, .i32⟩
  | .hbm, ⟨5, _⟩ => ⟨S1x4096, .f32⟩
  | .hbm, ⟨6, _⟩ => ⟨S1x4096, .f32⟩
  | .hbm, ⟨7, _⟩ => ⟨S4096x1, .i32⟩
  | .hbm, ⟨8, _⟩ => ⟨S1x1, .f32⟩
  | .hbm, ⟨9, _⟩ => ⟨S4096x512, .bf16⟩
  | .hbm, ⟨10, _⟩ => ⟨S1x4096, .f32⟩
  | .hbm, ⟨11, _⟩ => ⟨S1x512, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x512, .f32⟩
  | .local _ .vmem, ⟨0, _⟩ => ⟨S4096x1, .i32⟩
  | .local _ .vmem, ⟨1, _⟩ => ⟨S1x4096, .f32⟩
  | .local _ .vmem, ⟨2, _⟩ => ⟨S1x4096, .f32⟩
  | .local _ .vmem, ⟨3, _⟩ => ⟨S16384x2, .f32⟩
  | .local _ .vmem, ⟨4, _⟩ => ⟨S1x1, .f32⟩
  | .local _ .vmem, ⟨5, _⟩ => ⟨S4096x512, .bf16⟩
  | .local _ .vmem, ⟨6, _⟩ => ⟨S1x4096, .f32⟩
  | .local _ .vmem, ⟨7, _⟩ => ⟨S1x512, .f32⟩
  | .local _ .vmem, ⟨8, _⟩ => ⟨S16384x1, .f32⟩
  | .local _ .vmem, ⟨9, _⟩ => ⟨S16384x1, .f32⟩
  | .local _ .vmem, ⟨10, _⟩ => ⟨S16384x1, .f32⟩
  | .local _ .vmem, ⟨11, _⟩ => ⟨S4096x512, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1x4096, .f32⟩
  | .local _ .vmem, ⟨19, _⟩ => ⟨S1x4096, .f32⟩
  | .local _ .vmem, ⟨20, _⟩ => ⟨S1x4096, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4_0 : Ref sig .tc := ⟨.hbm, 9, rfl⟩
abbrev main_call0_v4_1 : Ref sig .tc := ⟨.hbm, 10, rfl⟩
abbrev main_call0_v4_2 : Ref sig .tc := ⟨.hbm, 11, rfl⟩
abbrev main_call0_v4_3 : Ref sig .tc := ⟨.hbm, 12, rfl⟩
abbrev main_call0_v4_4 : Ref sig .tc := ⟨.hbm, 13, rfl⟩
abbrev main_call0_v4_5 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S16384x2 : Shape := ⟨2, ![16384, 2]⟩
abbrev S_ : Shape := ⟨0, ![]⟩
abbrev S4096 : Shape := ⟨1, ![4096]⟩
abbrev S1x4096 : Shape := ⟨2, ![1, 4096]⟩
abbrev S16384x1 : Shape := ⟨2, ![16384, 1]⟩
abbrev S16384 : Shape := ⟨1, ![16384]⟩
abbrev S16384x4096 : Shape := ⟨2, ![16384, 4096]⟩
abbrev S4096x16384 : Shape := ⟨2, ![4096, 16384]⟩
abbrev S512x16384 : Shape := ⟨2, ![512, 16384]⟩
abbrev S4096x1 : Shape := ⟨2, ![4096, 1]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S_, .f32⟩
  | .hbm, ⟨2, _⟩ => ⟨S4096, .f32⟩
  | .hbm, ⟨3, _⟩ => ⟨S4096, .f32⟩
  | .hbm, ⟨4, _⟩ => ⟨S4096, .i32⟩
  | .hbm, ⟨5, _⟩ => ⟨S1x4096, .f32⟩
  | .hbm, ⟨6, _⟩ => ⟨S16384x1, .f32⟩
  | .hbm, ⟨7, _⟩ => ⟨S16384, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S1x4096, .f32⟩
  | .hbm, ⟨14, _⟩ => ⟨S16384x1, .f32⟩
  | .hbm, ⟨15, _⟩ => ⟨S16384, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384x4096, .f32⟩
  | .hbm, ⟨27, _⟩ => ⟨S_, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S4096x16384, .f32⟩
  | .hbm, ⟨38, _⟩ => ⟨S_, .f32⟩
  | .hbm, ⟨39, _⟩ => ⟨S512x16384, .f32⟩
  | .hbm, ⟨40, _⟩ => ⟨S4096x1, .i32⟩
  | .hbm, ⟨41, _⟩ => ⟨S512x16384, .f32⟩
  | .hbm, ⟨42, _⟩ => ⟨S16384x512, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Run.lean ====
/-
  The run of the idealized kernel program, with its result: every run of `main` terminates, the result array holds what the
  second region's write-backs leave in it, and the argument arrays are as launched. The launch is the frame's; only the
  facts read off the last thread state are more.
-/
module

public import proofs.«01_k».proof.Proof.Gen.KernelIdeal.Frame

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel program ends with the result array at the second region's write-backs folded over its grid,
    and the five argument arrays as launched. -/
theorem run : θ_run defs (onTc (τ := τ) (main (F := F))) ⟨m, fun _ => 0, ρ⟩ (fun r => ∀ c : Dev nD,
      r.2.mem ((c.tc : Thread nD τ).loc main_v0) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (W3_arr m ρ c 8),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Result

end
-- ==== Proof.Main.lean ====
/-
  The second region of the idealized kernel: what one grid point stores in its block of the result, and what the result
  array holds once every point has run, as a function of the eight arrays the region reads.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Main

open Cert.KernelIdeal Cert.KernelIdeal.Gen

/-- Spot `j` of chunk `k`: the chunks are eight runs of 512 neighbouring spots. -/
abbrev spot (k : Fin 8) (j : Fin 512) : Fin 4096 := ⟨k.val * 512 + j.val, by omega⟩

/-- The base-two exponential of the expanded square: one cell's and one spot's contribution, from the cell's three
    numbers, the spot's coordinates and the spot's own number. -/
def contrib (a b q x y p : EReal) : EReal := Ideal.exp2 ((a * x + b * y) + (p + q))

/-- The contributions of one chunk of 512 spots to a cell's label, each weighted by the label table. -/
def chunk (a b q : EReal) (x y p : Fin 4096 → EReal) (h : Fin 4096 → EReal) (k : Fin 8) : EReal :=
  ∑ j : Fin 512, contrib a b q (x (spot k j)) (y (spot k j)) (p (spot k j)) * h (spot k j)

/-- The eight chunks added in pairs, then the label's bias. -/
def total (a b q : EReal) (x y p h : Fin 4096 → EReal) (e : EReal) : EReal :=
  (((chunk a b q x y p h 0 + chunk a b q x y p h 1) + (chunk a b q x y p h 2 + chunk a b q x y p h 3))
    + ((chunk a b q x y p h 4 + chunk a b q x y p h 5) + (chunk a b q x y p h 6 + chunk a b q x y p h 7))) + e

/-- What one grid point leaves in its block of the result, at cell `r` of the block and label `l`. -/
theorem out_at (x0 : Vec Ideal S4096x512 .bf16) (x1 x2 x3 : Vec Ideal S1024x1 .f32) (x4 x5 x6 : Vec Ideal S1x4096 .f32)
    (x7 : Vec Ideal S1x512 .f32) (r : Fin 1024) (l : Fin 512) :
    out1_8 x0 x1 x2 x3 x4 x5 x6 x7 (ix2 r l)
      = total (x1 (ix2 r 0)) (x2 (ix2 r 0)) (x3 (ix2 r 0)) (fun s => x4 (ix2 0 s)) (fun s => x5 (ix2 0 s))
          (fun s => x6 (ix2 0 s)) (fun s => x0 (ix2 s l)) (x7 (ix2 0 l)) := by
  frame_out
  pointwise [k1_pay1, k1_pay2, k1_pay3, k1_pay4, k1_pay5, k1_pay6, k1_pay7, k1_pay8, k1_pay9, k1_pay10, k1_pay11, k1_pay12,
    k1_pay13, k1_pay14, k1_pay15, k1_pay16, k1_pay17, k1_pay18, k1_pay19, k1_pay20, k1_pay21, r1_0, r1_1, r1_2, r1_3, r1_4, r1_5, r1_6, r1_7, r1_8,
    r1_9, r1_10, r1_11, r1_12, r1_13, r1_14, r1_15, r1_16, total, chunk, contrib]
  simp only [spot, Fin.isValue, Fin.val_ofNat, Fin.coe_ofNat_eq_mod, Nat.reduceMod, Nat.zero_mod, Nat.reduceMul, Nat.zero_mul, Nat.zero_add]
  rfl

/-- The second region's windows: the block indices at every grid point. -/
theorem idx : ∀ t : Fin cfg1.N, win1_0.index t = ![0, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![t.val, 0] :=
  (by decide +kernel : ∀ t : Fin grid1.N, _)

/-- What the whole result array is shown to hold: each cell's and label's total over the arrays the region reads. -/
def result (x0 : FVec Ideal S4096x512 .bf16) (x1 x2 x3 : FVec Ideal S16384x1 .f32) (x4 x5 x6 : FVec Ideal S1x4096 .f32)
    (x7 : FVec Ideal S1x512 .f32) : FVec Ideal S16384x512 .f32 := fun i =>
  total (x1 (ix2 (i 0) 0)) (x2 (ix2 (i 0) 0)) (x3 (ix2 (i 0) 0)) (fun s => x4 (ix2 0 s)) (fun s => x5 (ix2 0 s))
    (fun s => x6 (ix2 0 s)) (fun s => x0 (ix2 s (i 1))) (x7 (ix2 0 (i 1)))

variable (V : (c : Dev nD) → (b : Ref sig .tc) → Buf (Elt Ideal) ((c : Thread nD τ).loc b))

/-- One grid point stores its block of `result`: the block's cells are the point's 1024 rows, and the other arrays are read
    whole. -/
theorem point (c : Dev nD) (t : Fin cfg1.N) (y : S1024x512.Idx) :
    out1_8 (iblk1 V c 0 t) (iblk1 V c 1 t) (iblk1 V c 2 t) (iblk1 V c 3 t) (iblk1 V c 4 t) (iblk1 V c 5 t) (iblk1 V c 6 t)
        (iblk1 V c 7 t) y
      = result (V c main_call0_v4_0) (V c main_call0_v4_3) (V c main_call0_v4_4) (V c main_call0_v4_5) (V c main_call0_v0)
          (V c main_call0_v1) (V c main_call0_v4_1) (V c main_call0_v4_2) (((cfg1.win 8).blk t).view.emb y) := by
  rw [eq_ix2 y]
  refine (out_at _ _ _ _ _ _ _ _ (y 0) (y 1)).trans ?_
  simp only [result, total, chunk]
  blk_point [iblk1, idx t]

/-- The result array after the second region is `result` of the arrays the region reads. -/
theorem final (c : Dev nD) : (dat1 V c).arrAt 8 cfg1.N
    = result (V c main_call0_v4_0) (V c main_call0_v4_3) (V c main_call0_v4_4) (V c main_call0_v4_5) (V c main_call0_v0)
          (V c main_call0_v1) (V c main_call0_v4_1) (V c main_call0_v4_2) := by
  refine (dat1 V c).arrAt_eq_of_covers 8 _ (by decide +kernel) fun t _ y => ?_
  blk_simp
  rw [after1_8]
  exact point V c t y

end Cert.KernelIdeal.Main
-- ==== Proof.Prep.lean ====
/-
  The first region of the idealized kernel: what the six arrays it writes hold, at an index, as functions of the five arrays
  it reads. The region has one grid point and every block is its whole array.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Prep

open Cert.KernelIdeal Cert.KernelIdeal.Gen

/-! ## The numbers -/

/-- The factor of a squared distance in the exponent, from the diffusion constant. -/
def scale (d : EReal) : EReal := Ideal.div ((-(Real.log 2)⁻¹ : ℝ) : EReal) (Ideal.ofBits .f32 0x40000000#32 * d)

/-- The exponent's constant term, from the diffusion constant. -/
def shift (d : EReal) : EReal := 0 - Ideal.log (Ideal.ofBits .f32 0x40C90FDB#32 * d) * (((Real.log 2)⁻¹ : ℝ) : EReal)

/-- A spot's own number in the exponent, from the diffusion constant and the spot's coordinates. -/
def rowOf (d x y : EReal) : EReal := scale d * (x * x + y * y) + shift d

/-- A cell's factor of a spot's coordinate, from the diffusion constant and the cell's coordinate. -/
def crossOf (d z : EReal) : EReal := (Ideal.ofBits .f32 0xC0000000#32 * scale d) * z

/-- A cell's own number in the exponent, from the diffusion constant and the cell's coordinates. -/
def colOf (d x y : EReal) : EReal := scale d * (x * x + y * y)

/-- The label table's entry: one where the spot's segment is the label, else zero. -/
def hot (g : BitVec 32) (l : Fin 512) : EReal := if g = BitVec.ofNat 32 l.val then 1 else 0

/-- A label's bias: the small constant times the number of the label's spots. -/
def biasOf (g : Fin 4096 → BitVec 32) (l : Fin 512) : EReal := Ideal.ofBits .f32 0x2B8CBCCC#32 * ∑ s : Fin 4096, hot (g s) l

/-! ## The stored values at an index -/

/-- The stored factor of a squared distance. -/
theorem pay6 (v : Vec Ideal S1x1 .f32) : k0_pay6 v = scale (v (ix2 0 0)) := by
  pointwise [k0_pay6, k0_pay5, scale]
  exact congrArg (fun a => Ideal.div a _) (IdealRules.named_const.ideal_named_scalar _ _ _ _ rfl)

/-- The stored row of spot numbers, at a spot. -/
theorem pay7 (v : Vec Ideal S1x1 .f32) (x y : Vec Ideal S1x4096 .f32) (s : Fin 4096) :
    k0_pay7 v x y (ix2 0 s) = rowOf (v (ix2 0 0)) (x (ix2 0 s)) (y (ix2 0 s)) := by
  pointwise [k0_pay7, k0_pay5, pay6, rowOf, shift]
  exact congrArg (fun a => _ + (0 - _ * a)) (IdealRules.named_const.ideal_named_scalar _ _ _ _ rfl)

/-- The stored label table, at a spot and a label: the truth value of the comparison, read as a number. -/
theorem pay4 (g : Vec Ideal S4096x1 .i32) (s : Fin 4096) (l : Fin 512) :
    k0_pay4 (F := Ideal) g (ix2 s l) = hot (g (ix2 s 0)) l := by
  pointwise [k0_pay4, hot]
  by_cases h : g (ix2 s 0) = BitVec.ofNat 32 l.val
  · simp [h, IntOp.cmpi]
    change (((1#32 : BitVec 32).toInt : ℝ) : EReal) = 1
    simp
  · have e : (g (ix2 s 0) == BitVec.ofNat 32 l.val) = false := beq_eq_false_iff_ne.mpr h
    simp [h, e, IntOp.cmpi]
    change (((0#32 : BitVec 32).toInt : ℝ) : EReal) = 0
    simp

/-- The stored bias, at a label, from the label table. -/
theorem pay3 (h : Vec Ideal S4096x512 .bf16) (l : Fin 512) :
    k0_pay3 (F := Ideal) h (ix2 0 l) = Ideal.ofBits .f32 0x2B8CBCCC#32 * ∑ s : Fin 4096, h (ix2 s l) := by
  pointwise [k0_pay3]

/-! ## The arrays -/

variable (V : (c : Dev nD) → (b : Ref sig .tc) → Buf (Elt Ideal) ((c : Thread nD τ).loc b))

/-- The windows' block indices are zero. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The segments' block is the segments' array. -/
theorem seg_block (c : Dev nD) (t : Fin cfg0.N) : iblk0 V c 0 t = V c main_call0_v2 := by blk_ext! [iblk0, idx t]
/-- The block of the spots' first coordinates is their array. -/
theorem ex_block (c : Dev nD) (t : Fin cfg0.N) : iblk0 V c 1 t = V c main_call0_v0 := by blk_ext! [iblk0, idx t]
/-- The block of the spots' second coordinates is their array. -/
theorem ey_block (c : Dev nD) (t : Fin cfg0.N) : iblk0 V c 2 t = V c main_call0_v1 := by blk_ext! [iblk0, idx t]
/-- The cells' block is the cells' array. -/
theorem z_block (c : Dev nD) (t : Fin cfg0.N) : iblk0 V c 3 t = V c main_arg0 := by blk_ext! [iblk0, idx t]
/-- The diffusion constant's block is its array. -/
theorem d_block (c : Dev nD) (t : Fin cfg0.N) : iblk0 V c 4 t = V c main_call0_v3 := by blk_ext! [iblk0, idx t]

/-- The label table after the region, at a spot and a label. -/
theorem onehot (c : Dev nD) (s : Fin 4096) (l : Fin 512) :
    (dat0 V c).arrAt 5 cfg0.N (ix2 s l : S4096x512.Idx) = hot ((V c main_call0_v2 : S4096x1.Idx → BitVec 32) (ix2 s 0)) l := by
  refine (congrFun ((dat0 V c).arrAt_eq_of_covers 5 (k0_pay4 (F := Ideal) (V c main_call0_v2)) (by decide +kernel)
    fun t _ y => ?_) _).trans (pay4 _ s l)
  blk_simp
  rw [after0_5]
  unfold outsAt0
  dsimp only
  frame_out
  simp only [read_unread_whole]
  rw [seg_block]
  blk_point [idx t]

/-- The spots' numbers after the region, at a spot. -/
theorem row (c : Dev nD) (s : Fin 4096) :
    (dat0 V c).arrAt 6 cfg0.N (ix2 0 s : S1x4096.Idx) = rowOf ((V c main_call0_v3 : S1x1.Idx → EReal) (ix2 0 0))
      ((V c main_call0_v0 : S1x4096.Idx → EReal) (ix2 0 s)) ((V c main_call0_v1 : S1x4096.Idx → EReal) (ix2 0 s)) := by
  refine (congrFun ((dat0 V c).arrAt_eq_of_covers 6 (k0_pay7 (V c main_call0_v3) (V c main_call0_v0) (V c main_call0_v1))
    (by decide +kernel) fun t _ y => ?_) _).trans (pay7 _ _ _ s)
  blk_simp
  rw [after0_6]
  unfold outsAt0
  dsimp only
  frame_out
  simp only [read_unread_whole]
  rw [ex_block, ey_block, d_block]
  blk_point [idx t]

/-- The labels' biases after the region, at a label. -/
theorem bias (c : Dev nD) (l : Fin 512) :
    (dat0 V c).arrAt 7 cfg0.N (ix2 0 l : S1x512.Idx)
      = biasOf (fun s => (V c main_call0_v2 : S4096x1.Idx → BitVec 32) (ix2 s 0)) l := by
  refine (congrFun ((dat0 V c).arrAt_eq_of_covers 7 (k0_pay3 (F := Ideal) (k0_pay4 (F := Ideal) (V c main_call0_v2)))
    (by decide +kernel) fun t _ y => ?_) _).trans ((pay3 _ l).trans (by simp only [pay4, biasOf]))
  blk_simp
  rw [after0_7]
  unfold outsAt0
  dsimp only
  frame_out
  simp only [read_unread_whole]
  rw [seg_block]
  blk_point [idx t]

/-- The cells' factors of the first coordinate after the region, at a cell. -/
theorem ax (c : Dev nD) (r : Fin 16384) :
    (dat0 V c).arrAt 8 cfg0.N (ix2 r 0 : S16384x1.Idx) = crossOf ((V c main_call0_v3 : S1x1.Idx → EReal) (ix2 0 0))
      ((V c main_arg0 : S16384x2.Idx → EReal) (ix2 r 0)) := by
  refine (congrFun ((dat0 V c).arrAt_eq_of_covers 8 (fun i : S16384x1.Idx =>
    crossOf ((V c main_call0_v3 : S1x1.Idx → EReal) (ix2 0 0)) ((V c main_arg0 : S16384x2.Idx → EReal) (ix2 (i 0) 0)))
    (by decide +kernel) fun t _ y => ?_) _)
  blk_simp
  rw [after0_8]
  unfold outsAt0
  dsimp only
  frame_out
  simp only [read_unread_whole]
  rw [z_block, d_block]
  pointwise [k0_pay8, pay6, crossOf]
  blk_point [idx t]

/-- The cells' factors of the second coordinate after the region, at a cell. -/
theorem ay (c : Dev nD) (r : Fin 16384) :
    (dat0 V c).arrAt 9 cfg0.N (ix2 r 0 : S16384x1.Idx) = crossOf ((V c main_call0_v3 : S1x1.Idx → EReal) (ix2 0 0))
      ((V c main_arg0 : S16384x2.Idx → EReal) (ix2 r 1)) := by
  refine (congrFun ((dat0 V c).arrAt_eq_of_covers 9 (fun i : S16384x1.Idx =>
    crossOf ((V c main_call0_v3 : S1x1.Idx → EReal) (ix2 0 0)) ((V c main_arg0 : S16384x2.Idx → EReal) (ix2 (i 0) 1)))
    (by decide +kernel) fun t _ y => ?_) _)
  blk_simp
  rw [after0_9]
  unfold outsAt0
  dsimp only
  frame_out
  simp only [read_unread_whole]
  rw [z_block, d_block]
  pointwise [k0_pay1, pay6, crossOf]
  blk_point [idx t]

/-- The cells' numbers after the region, at a cell. -/
theorem col (c : Dev nD) (r : Fin 16384) :
    (dat0 V c).arrAt 10 cfg0.N (ix2 r 0 : S16384x1.Idx) = colOf ((V c main_call0_v3 : S1x1.Idx → EReal) (ix2 0 0))
      ((V c main_arg0 : S16384x2.Idx → EReal) (ix2 r 0)) ((V c main_arg0 : S16384x2.Idx → EReal) (ix2 r 1)) := by
  refine (congrFun ((dat0 V c).arrAt_eq_of_covers 10 (fun i : S16384x1.Idx =>
    colOf ((V c main_call0_v3 : S1x1.Idx → EReal) (ix2 0 0)) ((V c main_arg0 : S16384x2.Idx → EReal) (ix2 (i 0) 0))
      ((V c main_arg0 : S16384x2.Idx → EReal) (ix2 (i 0) 1)))
    (by decide +kernel) fun t _ y => ?_) _)
  blk_simp
  rw [after0_10]
  unfold outsAt0
  dsimp only
  frame_out
  simp only [read_unread_whole]
  rw [z_block, d_block]
  pointwise [k0_pay2, pay6, colOf]
  blk_point [idx t]

end Cert.KernelIdeal.Prep
-- ==== Proof.Kern.lean ====
/-
  The idealized kernel's result at a cell and a label as a function of the five argument arrays: the arrays the first
  region reads are the arguments reshaped, the second region reads what the first one leaves.
-/
module

public import proofs.«01_k».proof.Proof.Main
public import proofs.«01_k».proof.Proof.Prep
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Kern

open Cert.KernelIdeal Cert.KernelIdeal.Gen

variable (m : (ℓ : Loc nD τ sig) → Buf (Elt Ideal) ℓ) (ρ : Dev nD → PrngReg) (c : Dev nD)

/-! ## The arguments -/

/-- The cells' coordinates as launched. -/
abbrev cells : S16384x2.Idx → EReal := m ((c : Thread nD τ).loc main_arg0)
/-- The diffusion constant as launched. -/
abbrev diffusion : S_.Idx → EReal := m ((c : Thread nD τ).loc main_arg1)
/-- The spots' first coordinates as launched. -/
abbrev spotX : S4096.Idx → EReal := m ((c : Thread nD τ).loc main_arg2)
/-- The spots' second coordinates as launched. -/
abbrev spotY : S4096.Idx → EReal := m ((c : Thread nD τ).loc main_arg3)
/-- The spots' segments as launched. -/
abbrev segment : S4096.Idx → BitVec 32 := m ((c : Thread nD τ).loc main_arg4)

/-! ## What the first region reads -/

/-- The spots' first coordinates at the first region's entry. -/
theorem entry_x (s : Fin 4096) : (V1 m ρ c main_call0_v0 : S1x4096.Idx → EReal) (ix2 0 s) = spotX m c (ix1 s) := by
  unfold V1 W1
  entry_read
  pointwise

/-- The spots' second coordinates at the first region's entry. -/
theorem entry_y (s : Fin 4096) : (V1 m ρ c main_call0_v1 : S1x4096.Idx → EReal) (ix2 0 s) = spotY m c (ix1 s) := by
  unfold V1 W1
  entry_read
  pointwise

/-- The spots' segments at the first region's entry. -/
theorem entry_segment (s : Fin 4096) :
    (V1 m ρ c main_call0_v2 : S4096x1.Idx → BitVec 32) (ix2 s 0) = segment m c (ix1 s) := by
  unfold V1 W1
  entry_read
  pointwise

/-- The diffusion constant at the first region's entry. -/
theorem entry_diffusion : (V1 m ρ c main_call0_v3 : S1x1.Idx → EReal) (ix2 0 0) = diffusion m c ix0 := by
  unfold V1 W1
  entry_read
  pointwise

/-- The cells' coordinates at the first region's entry. -/
theorem entry_cells : V1 m ρ c main_arg0 = cells m c := W1_args m ρ c main_arg0 (by decide)

/-! ## What the second region reads -/

/-- The spots' first coordinates at the second region's entry. -/
theorem mid_x (s : Fin 4096) : (V2 m ρ c main_call0_v0 : S1x4096.Idx → EReal) (ix2 0 s) = spotX m c (ix1 s) :=
  (congrFun (W2_of m ρ c main_call0_v0 (by decide +kernel)) _).trans (entry_x m ρ c s)

/-- The spots' second coordinates at the second region's entry. -/
theorem mid_y (s : Fin 4096) : (V2 m ρ c main_call0_v1 : S1x4096.Idx → EReal) (ix2 0 s) = spotY m c (ix1 s) :=
  (congrFun (W2_of m ρ c main_call0_v1 (by decide +kernel)) _).trans (entry_y m ρ c s)

/-- The label table at the second region's entry. -/
theorem mid_hot (s : Fin 4096) (l : Fin 512) :
    (V2 m ρ c main_call0_v4_0 : S4096x512.Idx → EReal) (ix2 s l) = Prep.hot (segment m c (ix1 s)) l :=
  ((congrFun (W2_arr m ρ c 5) _).trans (Prep.onehot (V1 m ρ) c s l)).trans
    (congrArg (fun g => Prep.hot g l) (entry_segment m ρ c s))

/-- The spots' numbers at the second region's entry. -/
theorem mid_row (s : Fin 4096) : (V2 m ρ c main_call0_v4_1 : S1x4096.Idx → EReal) (ix2 0 s)
    = Prep.rowOf (diffusion m c ix0) (spotX m c (ix1 s)) (spotY m c (ix1 s)) := by
  refine ((congrFun (W2_arr m ρ c 6) _).trans (Prep.row (V1 m ρ) c s)).trans ?_
  rw [entry_diffusion, entry_x, entry_y]

/-- The labels' biases at the second region's entry. -/
theorem mid_bias (l : Fin 512) : (V2 m ρ c main_call0_v4_2 : S1x512.Idx → EReal) (ix2 0 l)
    = Prep.biasOf (fun s => segment m c (ix1 s)) l := by
  refine ((congrFun (W2_arr m ρ c 7) _).trans (Prep.bias (V1 m ρ) c l)).trans ?_
  exact congrArg (fun g => Prep.biasOf g l) (funext fun s => entry_segment m ρ c s)

/-- The cells' factors of the first coordinate at the second region's entry. -/
theorem mid_ax (r : Fin 16384) : (V2 m ρ c main_call0_v4_3 : S16384x1.Idx → EReal) (ix2 r 0)
    = Prep.crossOf (diffusion m c ix0) (cells m c (ix2 r 0)) := by
  refine ((congrFun (W2_arr m ρ c 8) _).trans (Prep.ax (V1 m ρ) c r)).trans ?_
  rw [entry_diffusion, entry_cells]

/-- The cells' factors of the second coordinate at the second region's entry. -/
theorem mid_ay (r : Fin 16384) : (V2 m ρ c main_call0_v4_4 : S16384x1.Idx → EReal) (ix2 r 0)
    = Prep.crossOf (diffusion m c ix0) (cells m c (ix2 r 1)) := by
  refine ((congrFun (W2_arr m ρ c 9) _).trans (Prep.ay (V1 m ρ) c r)).trans ?_
  rw [entry_diffusion, entry_cells]

/-- The cells' numbers at the second region's entry. -/
theorem mid_col (r : Fin 16384) : (V2 m ρ c main_call0_v4_5 : S16384x1.Idx → EReal) (ix2 r 0)
    = Prep.colOf (diffusion m c ix0) (cells m c (ix2 r 0)) (cells m c (ix2 r 1)) := by
  refine ((congrFun (W2_arr m ρ c 10) _).trans (Prep.col (V1 m ρ) c r)).trans ?_
  rw [entry_diffusion, entry_cells]

/-! ## The result -/

/-- Equal arguments give equal totals. -/
theorem total_congr {a a' b b' q q' e e' : EReal} {x x' y y' p p' h h' : Fin 4096 → EReal} (ha : a = a') (hb : b = b')
    (hq : q = q') (hx : ∀ s, x s = x' s) (hy : ∀ s, y s = y' s) (hp : ∀ s, p s = p' s) (hh : ∀ s, h s = h' s) (he : e = e') :
    Main.total a b q x y p h e = Main.total a' b' q' x' y' p' h' e' := by
  rw [ha, hb, hq, funext hx, funext hy, funext hp, funext hh, he]

/-- The kernel's result at a cell and a label, from the diffusion constant, the cell's coordinates, the spots' coordinates
    and the spots' segments. -/
def exposure (d zx zy : EReal) (x y : Fin 4096 → EReal) (g : Fin 4096 → BitVec 32) (l : Fin 512) : EReal :=
  Main.total (Prep.crossOf d zx) (Prep.crossOf d zy) (Prep.colOf d zx zy) x y (fun s => Prep.rowOf d (x s) (y s))
    (fun s => Prep.hot (g s) l) (Prep.biasOf g l)

/-- What the kernel's result array holds, at a cell and a label. -/
theorem result (r : Fin 16384) (l : Fin 512) :
    (dat1 (V2 m ρ) c).arrAt 8 cfg1.N (ix2 r l : S16384x512.Idx)
      = exposure (diffusion m c ix0) (cells m c (ix2 r 0)) (cells m c (ix2 r 1)) (fun s => spotX m c (ix1 s))
          (fun s => spotY m c (ix1 s)) (fun s => segment m c (ix1 s)) l := by
  refine (congrFun (Main.final (V2 m ρ) c) _).trans ?_
  exact total_congr (mid_ax m ρ c r) (mid_ay m ρ c r) (mid_col m ρ c r) (mid_x m ρ c) (mid_y m ρ c) (mid_row m ρ c)
    (fun s => mid_hot m ρ c s l) (mid_bias m ρ c l)

end Cert.KernelIdeal.Kern

end
-- ==== Proof.Ref.lean ====
/-
  The reference at an index: at a cell and a label, the sum over the label's spots of the cell's density at the spot plus the
  small constant, as a function of the five argument arrays.
-/
module

public import proofs.«01_k».proof.Proof.Gen.ReferenceIdeal
public import proofs.«01_k».proof.Proof.Gen.ReferenceIdeal.Read
public import Idealize.ShloMosaic.Lib.Pointwise
public import Idealize.ShloMosaic.Lib.Routing.OpsPair

@[expose] public section

set_option maxRecDepth 16384

noncomputable section

open Idealize.ShloMosaic Idealize.ShloMosaic.TcCoe Idealize.SL.Sem

namespace Cert.ReferenceIdeal.Exposure

open Cert.ReferenceIdeal Cert.ReferenceIdeal.Gen Cert.ReferenceIdeal.Read

/-! ## Where a spot's row lands -/

/-- The scatter's first coordinate starts at the spot's segment, read signed. -/
theorem start_label (s : Fin 4096) (q : Fin 16384) (g : IVec S4096x1 32) :
    scatter_S512x16384_S4096x1_S4096x16384_1_0_0_1.start (ix2 s q : S4096x16384.Idx) g 0 = (g (ix2 s 0)).toInt := by
  have e : (scatter_S512x16384_S4096x1_S4096x16384_1_0_0_1.siIdx (ix2 s q : S4096x16384.Idx) ⟨0, by decide⟩ : S4096x1.Idx)
      = ix2 s 0 := by
    funext a
    fin_cases a <;> rfl
  exact congrArg (fun x => (g x).toInt) e

/-- The update of spot `s` at cell `q` lands at label `l` and cell `r` exactly when the spot's segment is `l` and `q` is `r`. -/
theorem lands (s : Fin 4096) (q : Fin 16384) (g : IVec S4096x1 32) (l : Fin 512) (r : Fin 16384) :
    scatter_S512x16384_S4096x1_S4096x16384_1_0_0_1.resultIdx? (ix2 s q : S4096x16384.Idx) g = some (ix2 l r : S512x16384.Idx)
      ↔ (g (ix2 s 0)).toInt = (l.val : Int) ∧ q = r := by
  rw [Routing.resultIdx?_eq_some]
  have w0 : scatter_S512x16384_S4096x1_S4096x16384_1_0_0_1.window (ix2 s q : S4096x16384.Idx) 0 = 0 := rfl
  have w1 : scatter_S512x16384_S4096x1_S4096x16384_1_0_0_1.window (ix2 s q : S4096x16384.Idx) 1 = q.val := rfl
  have s1 : scatter_S512x16384_S4096x1_S4096x16384_1_0_0_1.start (ix2 s q : S4096x16384.Idx) g 1 = 0 := rfl
  constructor
  · intro h
    have h0 := h 0
    have h1 := h 1
    rw [start_label, w0] at h0
    rw [s1, w1] at h1
    refine ⟨(Int.add_zero _).symm.trans h0, Fin.ext ?_⟩
    have h2 : (0 : Int) + (q.val : Int) = (r.val : Int) := h1
    omega
  · rintro ⟨h, rfl⟩ a
    match a with
    | ⟨0, _⟩ =>
      show scatter_S512x16384_S4096x1_S4096x16384_1_0_0_1.start (ix2 s q : S4096x16384.Idx) g 0
        + (scatter_S512x16384_S4096x1_S4096x16384_1_0_0_1.window (ix2 s q : S4096x16384.Idx) 0 : Int) = (l.val : Int)
      rw [start_label, w0]
      exact (Int.add_zero _).trans h
    | ⟨1, _⟩ =>
      show scatter_S512x16384_S4096x1_S4096x16384_1_0_0_1.start (ix2 s q : S4096x16384.Idx) g 1
        + (scatter_S512x16384_S4096x1_S4096x16384_1_0_0_1.window (ix2 s q : S4096x16384.Idx) 1 : Int) = (q.val : Int)
      rw [s1, w1]
      exact Int.zero_add _

/-- An accumulating scatter at an index: the start plus the updates that land there. -/
theorem scatterAdd_at {s si su : Shape} {w : Nat} (d : ScatterDims s si su) (x : FVec Ideal s .f32) (g : IVec si w)
    (u : FVec Ideal su .f32) (i : s.Idx) :
    Host.scatterAdd d x g u i = (x i + ∑ j : su.Idx, if d.resultIdx? j g = some i then u j else 0 : EReal) :=
  congrArg (fun b : EReal => x i + b) (Finset.sum_filter _ _)

/-- The accumulated rows at a label and a cell: the start plus the entries at the cell of the label's spots. -/
theorem scattered (x : FVec Ideal S512x16384 .f32) (g : IVec S4096x1 32) (u : FVec Ideal S4096x16384 .f32)
    (l : Fin 512) (r : Fin 16384) :
    Host.scatterAdd scatter_S512x16384_S4096x1_S4096x16384_1_0_0_1 x g u (ix2 l r : S512x16384.Idx)
      = (x (ix2 l r) + ∑ s : Fin 4096, if (g (ix2 s 0)).toInt = (l.val : Int) then u (ix2 s r) else 0 : EReal) := by
  refine (scatterAdd_at _ x g u _).trans (congrArg (fun b : EReal => x (ix2 l r) + b) ?_)
  rw [sum_idx2]
  refine Finset.sum_congr rfl fun s _ => ?_
  simp only [lands]
  by_cases h : (g (ix2 s 0)).toInt = (l.val : Int)
  · simp [h]
  · simp [h]

/-! ## The density -/

/-- The squared distance of a spot and a cell, from their coordinates. -/
def sqDist (zx zy x y : EReal) : EReal := (x - zx) * (x - zx) + (y - zy) * (y - zy)

/-- The density's factor, from the diffusion constant. -/
def factor (d : EReal) : EReal := Ideal.div (Ideal.ofBits .f32 0x3F800000#32) (Ideal.ofBits .f32 0x40C90FDB#32 * d)

/-- The density of a cell at a spot, from the diffusion constant and the coordinates. -/
def density (d zx zy x y : EReal) : EReal :=
  factor d * Ideal.exp (Ideal.div (-sqDist zx zy x y) (Ideal.ofBits .f32 0x40000000#32 * d))

/-- The table of the rates at a cell and a spot: the density plus the small constant. -/
theorem rate (x0 : FVec Ideal S16384x2 .f32) (x1 : FVec Ideal S_ .f32) (x2 x3 : FVec Ideal S4096 .f32)
    (r : Fin 16384) (s : Fin 4096) :
    val_main_v27 (F := Ideal) x0 x1 x2 x3 (ix2 r s)
      = density (x1 ix0) (x0 (ix2 r 0)) (x0 (ix2 r 1)) (x2 (ix1 s)) (x3 (ix1 s)) + Ideal.ofBits .f32 0x2B8CBCCC#32 := by
  pointwise [val_main_v27, val_main_v26, val_main_cst_2, val_main_v25, val_main_v24, val_main_v23, val_main_v22, val_main_v21,
    val_main_v20, val_main_cst_1, val_main_v19, val_main_v18, val_main_cst_0, val_main_v17, val_main_cst, val_main_v16,
    val_main_v15, val_main_v14, val_main_v13, val_main_v12, val_main_v11, val_main_v10, val_main_v9, val_main_v8, val_main_v7,
    val_main_v6, val_main_v5, val_main_v4, val_main_v3, val_main_v2, val_main_v1, val_main_v0, density, factor, sqDist]

/-- The reference's result at a cell and a label. -/
theorem result (x0 : FVec Ideal S16384x2 .f32) (x1 : FVec Ideal S_ .f32) (x2 x3 : FVec Ideal S4096 .f32) (x4 : IVec S4096 32)
    (r : Fin 16384) (l : Fin 512) :
    val_main_v32 (F := Ideal) x0 x1 x2 x3 x4 (ix2 r l)
      = ∑ s : Fin 4096, if (x4 (ix1 s)).toInt = (l.val : Int)
          then density (x1 ix0) (x0 (ix2 r 0)) (x0 (ix2 r 1)) (x2 (ix1 s)) (x3 (ix1 s)) + Ideal.ofBits .f32 0x2B8CBCCC#32
          else 0 := by
  rw [val_main_v32_apply]
  have e : idx_main_v32 (ix2 r l) = (ix2 l r : S512x16384.Idx) := by funext a; fin_cases a <;> rfl
  rw [e, val_main_v31, scattered]
  have z : val_main_v29 (F := Ideal) (ix2 l r) = (0 : EReal) := by
    pointwise [val_main_v29, val_main_cst_3]
  have g : ∀ s : Fin 4096, val_main_v30 (F := Ideal) x4 (ix2 s 0) = x4 (ix1 s) := fun s => by
    pointwise [val_main_v30]
  have u : ∀ s : Fin 4096, val_main_v28 (F := Ideal) x0 x1 x2 x3 (ix2 s r) = val_main_v27 (F := Ideal) x0 x1 x2 x3 (ix2 r s) :=
    fun s => by pointwise [val_main_v28]
  rw [z, zero_add]
  simp only [g, u, rate]

end Cert.ReferenceIdeal.Exposure

end
-- ==== Proof.Density.lean ====
/-
  One cell and one spot: the kernel's base-two exponential of the expanded square is the reference's density, at every
  positive diffusion constant and at all coordinates, infinite ones included.
-/
module

public import proofs.«01_k».proof.Proof.Kern
public import proofs.«01_k».proof.Proof.Ref

@[expose] public section

noncomputable section

open Idealize.ShloMosaic

namespace Cert.Density

open Cert.KernelIdeal.Prep Cert.KernelIdeal.Main Cert.ReferenceIdeal.Exposure

/-! ## The constants -/

/-- The single-precision value nearest two pi. -/
def tau : ℝ := 13176795 / 2097152

/-- The word of the value nearest two pi. -/
theorem bits_tau : Ideal.ofBits .f32 0x40C90FDB#32 = ((tau : ℝ) : EReal) := by
  simp [Ideal.ofBits, Ideal.ieee, tau, -EReal.coe_mul]; norm_num
/-- The word of two. -/
theorem bits_two : Ideal.ofBits .f32 0x40000000#32 = ((2 : ℝ) : EReal) := by
  simp [Ideal.ofBits, Ideal.ieee, -EReal.coe_mul]; norm_num
/-- The word of minus two. -/
theorem bits_neg_two : Ideal.ofBits .f32 0xC0000000#32 = ((-2 : ℝ) : EReal) := by
  simp [Ideal.ofBits, Ideal.ieee, -EReal.coe_mul]; norm_num
/-- The word of one. -/
theorem bits_one : Ideal.ofBits .f32 0x3F800000#32 = ((1 : ℝ) : EReal) := by
  simp [Ideal.ofBits, Ideal.ieee, -EReal.coe_mul]; norm_num

/-- The value nearest two pi is positive. -/
theorem tau_pos : 0 < tau := by unfold tau; norm_num
/-- The logarithm of two is positive. -/
theorem log_two_pos : 0 < Real.log 2 := Real.log_pos (by norm_num)

/-! ## Infinite coordinates -/

/-- A coordinate is infinite. -/
def Far (x : EReal) : Prop := x = ⊥ ∨ x = ⊤

/-- A coordinate that is not infinite is a real number. -/
theorem real_of_not_far {x : EReal} (h : ¬ Far x) : ∃ r : ℝ, x = (r : EReal) := by
  induction x with
  | bot => exact absurd (Or.inl rfl) h
  | top => exact absurd (Or.inr rfl) h
  | coe r => exact ⟨r, rfl⟩

/-- A square is not negative. -/
theorem square_nonneg (x : EReal) : 0 ≤ x * x := by
  induction x with
  | bot => simp
  | top => simp
  | coe r => exact_mod_cast mul_self_nonneg r

/-- The square of an infinite number is infinite. -/
theorem sq_far {x : EReal} (h : Far x) : x * x = ⊤ := by
  rcases h with rfl | rfl <;> simp

/-- The sum of two squares is infinite as soon as one number is. -/
theorem squares_far {x y : EReal} (h : Far x ∨ Far y) : x * x + y * y = ⊤ := by
  have ne : ∀ z : EReal, z * z ≠ ⊥ := fun z => ne_of_gt (lt_of_lt_of_le EReal.bot_lt_zero (square_nonneg z))
  rcases h with h | h
  · rw [sq_far h, EReal.top_add_of_ne_bot (ne y)]
  · rw [sq_far h, EReal.add_top_of_ne_bot (ne x)]

/-- A difference is infinite as soon as one of its numbers is. -/
theorem sub_far {x z : EReal} (h : Far x ∨ Far z) : Far (x - z) := by
  unfold Far at *
  induction x <;> induction z <;> simp_all

/-- The squared distance is infinite as soon as one coordinate is. -/
theorem dist_far {zx zy x y : EReal} (h : (Far x ∨ Far y) ∨ (Far zx ∨ Far zy)) : sqDist zx zy x y = ⊤ := by
  refine squares_far ?_
  rcases h with (h | h) | (h | h)
  · exact .inl (sub_far (.inl h))
  · exact .inr (sub_far (.inl h))
  · exact .inl (sub_far (.inr h))
  · exact .inr (sub_far (.inr h))

/-! ## A real diffusion constant -/

/-- The kernel's factor as a real number. -/
def scaleR (d : ℝ) : ℝ := -(Real.log 2)⁻¹ * (2 * d)⁻¹
/-- The kernel's constant term as a real number. -/
def shiftR (d : ℝ) : ℝ := -(Real.log (tau * d) * (Real.log 2)⁻¹)

/-- The kernel's factor at a positive real constant. -/
theorem scale_coe {d : ℝ} (h : 0 < d) : scale d = ((scaleR d : ℝ) : EReal) := by
  have ne : (2 * d : ℝ) ≠ 0 := by positivity
  rw [scale, bits_two, ← EReal.coe_mul, Ideal.div_coe ne, ← EReal.coe_mul, one_div, scaleR]

/-- The kernel's factor is negative. -/
theorem scaleR_neg {d : ℝ} (h : 0 < d) : scaleR d < 0 :=
  mul_neg_of_neg_of_pos (neg_neg_of_pos (inv_pos.mpr log_two_pos)) (by positivity)

/-- The kernel's constant term at a positive real constant. -/
theorem shift_coe {d : ℝ} (h : 0 < d) : shift d = ((shiftR d : ℝ) : EReal) := by
  have pos : 0 < tau * d := mul_pos tau_pos h
  rw [shift, bits_tau, ← EReal.coe_mul, Ideal.log_coe, if_neg (not_le.mpr pos), ← EReal.coe_mul, zero_sub, ← EReal.coe_neg, shiftR]

/-- The density's factor at a positive real constant. -/
theorem factor_coe {d : ℝ} (h : 0 < d) : factor d = (((tau * d)⁻¹ : ℝ) : EReal) := by
  have ne : (tau * d : ℝ) ≠ 0 := (mul_pos tau_pos h).ne'
  rw [factor, bits_tau, bits_one, ← EReal.coe_mul, Ideal.div_coe ne, ← EReal.coe_mul, one_mul, one_div]

/-- A negative real times the infinite sum of squares, with a further real added, is minus infinity. -/
theorem row_far {d : ℝ} (h : 0 < d) {x y : EReal} (f : Far x ∨ Far y) : rowOf d x y = ⊥ := by
  rw [rowOf, squares_far f, scale_coe h, EReal.coe_mul_top_of_neg (scaleR_neg h), EReal.bot_add]

/-- A negative real times the infinite sum of squares is minus infinity. -/
theorem col_far {d : ℝ} (h : 0 < d) {x y : EReal} (f : Far x ∨ Far y) : colOf d x y = ⊥ := by
  rw [colOf, squares_far f, scale_coe h, EReal.coe_mul_top_of_neg (scaleR_neg h)]

/-- The contribution is zero where the spot's own number is minus infinity. -/
theorem contrib_row_bot (a b q x y : EReal) : contrib a b q x y ⊥ = 0 := by
  rw [contrib, EReal.bot_add, EReal.add_bot, Ideal.exp2_bot]

/-- The contribution is zero where the cell's own number is minus infinity. -/
theorem contrib_col_bot (a b x y p : EReal) : contrib a b ⊥ x y p = 0 := by
  rw [contrib, EReal.add_bot, EReal.add_bot, Ideal.exp2_bot]

/-- The density is zero where the squared distance is infinite. -/
theorem density_far {d : ℝ} (h : 0 < d) {zx zy x y : EReal} (f : sqDist zx zy x y = ⊤) : density d zx zy x y = 0 := by
  have pos : (0 : ℝ) < 2 * d := by positivity
  rw [density, f, bits_two, ← EReal.coe_mul, EReal.neg_top]
  have e : Ideal.div ⊥ ((2 * d : ℝ) : EReal) = ⊥ := by
    rw [Ideal.div, if_neg (by exact_mod_cast pos.ne'), ← EReal.coe_inv, EReal.bot_mul_coe_of_pos (inv_pos.mpr pos)]
  rw [e, Ideal.exp_bot, mul_zero]

/-- The exponent of two, times the logarithm of two, is the reference's exponent less the logarithm of its factor's
    reciprocal: the expanded square. -/
theorem exponent {d : ℝ} (h : 0 < d) (zx zy x y : ℝ) :
    Real.log 2 * ((((-2 * scaleR d) * zx) * x + ((-2 * scaleR d) * zy) * y)
        + ((scaleR d * (x * x + y * y) + shiftR d) + scaleR d * (zx * zx + zy * zy)))
      = -((x - zx) * (x - zx) + (y - zy) * (y - zy)) / (2 * d) - Real.log (tau * d) := by
  have l := log_two_pos.ne'
  have := h.ne'
  unfold scaleR shiftR
  field_simp
  ring

/-- At real coordinates the contribution is the density. -/
theorem contrib_real {d : ℝ} (h : 0 < d) (zx zy x y : ℝ) :
    contrib (crossOf d zx) (crossOf d zy) (colOf d zx zy) x y (rowOf d x y) = density d zx zy x y := by
  have ne : (2 * d : ℝ) ≠ 0 := by positivity
  have pos : 0 < tau * d := mul_pos tau_pos h
  simp only [contrib, crossOf, colOf, rowOf, density, sqDist, scale_coe h, shift_coe h, factor_coe h, bits_neg_two, bits_two,
    ← EReal.coe_mul, ← EReal.coe_add, ← EReal.coe_sub, ← EReal.coe_neg]
  rw [Ideal.div_coe ne, ← EReal.coe_mul, mul_one_div, Ideal.exp2_coe, Ideal.exp_coe, ← EReal.coe_mul]
  refine congrArg _ ?_
  rw [Real.rpow_eq_pow, Real.rpow_def_of_pos (by norm_num), exponent h, Real.exp_sub, Real.exp_log pos, div_eq_inv_mul]

/-! ## The infinite diffusion constant -/

/-- At the infinite constant the contribution is zero: the constant term is minus infinity. -/
theorem contrib_top (zx zy x y : EReal) :
    contrib (crossOf ⊤ zx) (crossOf ⊤ zy) (colOf ⊤ zx zy) x y (rowOf ⊤ x y) = 0 := by
  have e : shift ⊤ = ⊥ := by
    rw [shift, bits_tau, EReal.coe_mul_top_of_pos tau_pos, Ideal.log_top, EReal.top_mul_coe_of_pos (inv_pos.mpr log_two_pos)]
    rfl
  rw [show rowOf ⊤ x y = ⊥ by rw [rowOf, e, EReal.add_bot], contrib_row_bot]

/-- At the infinite constant the density is zero: its factor is. -/
theorem density_top (zx zy x y : EReal) : density ⊤ zx zy x y = 0 := by
  have e : factor ⊤ = 0 := by
    rw [factor, bits_tau, EReal.coe_mul_top_of_pos tau_pos, Ideal.div, if_neg (by simp), EReal.inv_top, mul_zero]
  rw [density, e, zero_mul]

/-! ## The equation -/

/-- At a positive diffusion constant the kernel's contribution of a spot to a cell is the reference's density. -/
theorem contrib_eq {d : EReal} (h : 0 < d) (zx zy x y : EReal) :
    contrib (crossOf d zx) (crossOf d zy) (colOf d zx zy) x y (rowOf d x y) = density d zx zy x y := by
  induction d with
  | bot => exact absurd h (by simp)
  | top => rw [contrib_top, density_top]
  | coe d =>
    have h : 0 < d := by exact_mod_cast h
    by_cases fs : Far x ∨ Far y
    · rw [row_far h fs, contrib_row_bot, density_far h (dist_far (.inl fs))]
    by_cases fc : Far zx ∨ Far zy
    · rw [col_far h fc, contrib_col_bot, density_far h (dist_far (.inr fc))]
    obtain ⟨x, rfl⟩ := real_of_not_far fun f => fs (.inl f)
    obtain ⟨y, rfl⟩ := real_of_not_far fun f => fs (.inr f)
    obtain ⟨zx, rfl⟩ := real_of_not_far fun f => fc (.inl f)
    obtain ⟨zy, rfl⟩ := real_of_not_far fun f => fc (.inr f)
    exact contrib_real h zx zy x y

end Cert.Density

end
-- ==== Proof.Sum.lean ====
/-
  One cell and one label: the kernel's eight chunks weighted by the label table, with the label's bias, are the reference's
  sum over the label's spots.
-/
module

public import proofs.«01_k».proof.Proof.Density

@[expose] public section

noncomputable section

open Idealize.ShloMosaic

namespace Cert.Sum

open Cert.KernelIdeal.Prep Cert.KernelIdeal.Main Cert.KernelIdeal.Kern Cert.ReferenceIdeal.Exposure

/-- A segment is a label's word exactly when, read signed, it is the label: labels are small. -/
theorem word_eq (g : BitVec 32) (l : Fin 512) : g = BitVec.ofNat 32 l.val ↔ g.toInt = (l.val : Int) := by
  have hl := l.isLt
  have e : (BitVec.ofNat 32 l.val).toInt = (l.val : Int) := by
    have n : (BitVec.ofNat 32 l.val).toNat = l.val := by
      rw [BitVec.toNat_ofNat]
      omega
    rw [BitVec.toInt_eq_toNat_of_lt (by omega), n]
  rw [← e]
  exact ⟨fun h => congrArg _ h, fun h => BitVec.eq_of_toInt_eq h⟩

/-- A label table's entry is not negative. -/
theorem hot_nonneg (g : BitVec 32) (l : Fin 512) : 0 ≤ hot g l := by
  unfold hot
  split <;> simp

/-- A number times a label table's entry is the number at the label's spots and zero at the others. -/
theorem mul_hot (k : EReal) (g : BitVec 32) (l : Fin 512) : k * hot g l = if g.toInt = (l.val : Int) then k else 0 := by
  simp only [hot, word_eq, mul_ite, mul_one, mul_zero]

/-- A product distributes over a sum of numbers that are not negative. -/
theorem mul_sum_nonneg {ι : Type} (a : EReal) (f : ι → EReal) (s : Finset ι) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi,
      EReal.left_distrib_of_nonneg (hf i) (Finset.sum_nonneg fun j _ => hf j), ih]

/-- The eight chunks added in pairs are the sum over all the spots. -/
theorem total_eq (a b q : EReal) (x y p h : Fin 4096 → EReal) (e : EReal) :
    total a b q x y p h e = (∑ s : Fin 4096, contrib a b q (x s) (y s) (p s) * h s) + e := by
  rw [Fin.sum_univ_tiles 8 512 rfl, Fin.sum_univ_eight, total]
  simp only [chunk, ← add_assoc]

/-- At a positive diffusion constant the kernel's result at a cell and a label is the reference's. -/
theorem exposure_eq {d : EReal} (hd : 0 < d) (zx zy : EReal) (x y : Fin 4096 → EReal) (g : Fin 4096 → BitVec 32) (l : Fin 512) :
    exposure d zx zy x y g l
      = ∑ s : Fin 4096, if (g s).toInt = (l.val : Int)
          then density d zx zy (x s) (y s) + Ideal.ofBits .f32 0x2B8CBCCC#32 else 0 := by
  rw [exposure, total_eq, biasOf, mul_sum_nonneg _ _ _ (fun s => hot_nonneg (g s) l), ← Finset.sum_add_distrib]
  refine Finset.sum_congr rfl fun s _ => ?_
  rw [Density.contrib_eq hd, mul_hot, mul_hot]
  split
  · rfl
  · exact add_zero 0

end Cert.Sum

end
-- ==== Proof.lean ====
/-
  The proof of the certificate's claim. The kernel's frame and the idealized kernel's are the generated ones; the
  reference's is read off its run. The value claim puts the kernel's result (Kern) and the reference's (Ref) side by side at
  every cell and label, where they are equal at a positive diffusion constant (Density, Sum).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Sum
public import Idealize.ShloMosaic.Adequacy
public import Idealize.ShloMosaic.Init

@[expose] public section

noncomputable section

namespace Cert.Proof

open Idealize.ShloMosaic Idealize.ShloMosaic.TcCoe Idealize.SL.Sem

/-- The reference's frame: its run ends with the arguments unchanged, and it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩)
    (Cert.ReferenceIdeal.Value.run (F := Ideal) m ρ)

/-- The precondition has no side conditions. -/
theorem pre_facts : Cert.Pre_diffusion_positive.Facts := {}

/-- The precondition says that the diffusion constant is positive. -/
theorem diffusion_pos (hPre : Cert.Pre_diffusion_positive.Facts)
    (m : (ℓ : Loc Cert.KernelIdeal.nD Cert.KernelIdeal.τ Cert.KernelIdeal.sig) → Buf (Elt Ideal) ℓ)
    (h : Cert.Pre_KernelIdeal_diffusion_positive m) (c : Dev Cert.KernelIdeal.nD) :
    (0 : EReal) < Cert.KernelIdeal.Kern.diffusion m c ix0 := by
  have h0 : BitVec.ofBool (decide (Ideal.ofBits .f32 0x00000000#32 < Cert.KernelIdeal.Kern.diffusion m c ix0)) = 1#1 :=
    congrFun (h c) ix0
  have h1 : Ideal.ofBits .f32 0x00000000#32 < Cert.KernelIdeal.Kern.diffusion m c ix0 := by
    by_contra n
    rw [decide_eq_false n] at h0
    exact absurd h0 (by decide)
  have z : Ideal.ofBits .f32 0x00000000#32 = 0 := by simp [Ideal.ofBits, Ideal.ieee]
  rwa [z] at h1

/-- The kernel's result array is the reference's result of the same arguments. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hd : (0 : EReal) < Cert.KernelIdeal.Kern.diffusion m c ix0) :
    (Cert.KernelIdeal.Gen.dat1 (Cert.KernelIdeal.Gen.V2 m ρ) c).arrAt 8 Cert.KernelIdeal.cfg1.N
      = Cert.ReferenceIdeal.Read.val_main_v32 (F := Ideal) (Cert.KernelIdeal.Kern.cells m c)
          (Cert.KernelIdeal.Kern.diffusion m c) (Cert.KernelIdeal.Kern.spotX m c) (Cert.KernelIdeal.Kern.spotY m c)
          (Cert.KernelIdeal.Kern.segment m c) := by
  funext i
  rw [show i = (ix2 (i 0) (i 1) : Cert.KernelIdeal.S16384x512.Idx) from eq_ix2 i]
  exact (Cert.KernelIdeal.Kern.result m ρ c (i 0) (i 1)).trans
    ((Cert.Sum.exposure_eq hd _ _ _ _ _ _).trans (Cert.ReferenceIdeal.Exposure.result _ _ _ _ _ (i 0) (i 1)).symm)

/-- The certificate's claim. -/
theorem claim : Cert.Claim := ⟨Cert.Kernel.Gen.facts, Cert.KernelIdeal.Gen.facts, Cert.ReferenceIdeal.Gen.facts, pre_facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  ⟨IdealRules.named_const.statement Cert.KernelIdeal.κ "neg_log2e" .f32 0xBFB8AA3B#32 _ rfl,
    IdealRules.named_const.statement Cert.KernelIdeal.κ "log2e" .f32 0x3FB8AA3B#32 _ rfl⟩,
  fun m g m' g' hp ha => ⟨fun c => (Cert.KernelIdeal.Gen.dat1 (Cert.KernelIdeal.Gen.V2 m g) c).arrAt 8 Cert.KernelIdeal.cfg1.N,
    Cert.KernelIdeal.Result.run m g,
    (θ_run _ _ _).mono (fun r h c => ⟨by
      refine (h c).1.trans ((Cert.ReferenceIdeal.Read.val_main_v32_eq _ _ _ _ _).trans ?_)
      rw [(ha c).1, (ha c).2.1, (ha c).2.2.1, (ha c).2.2.2.1, (ha c).2.2.2.2]
      exact (results_eq m g c (diffusion_pos pre_facts m hp c)).symm, (h c).2⟩)
      (Cert.ReferenceIdeal.Value.run (F := Ideal) m' g')⟩⟩

end Cert.Proof

end
